-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1024x49x128 : Shape := ⟨3, ![1024, 49, 128]⟩
abbrev S1x231x128x128 : Shape := ⟨4, ![1, 231, 128, 128]⟩
abbrev S_ : Shape := ⟨0, ![]⟩

class Facts : Prop where
  bcast_S_S1024x49x128 : S_.BroadcastsInDim S1024x49x128 (![] : Fin 0 → Fin S1024x49x128.rank)
  bcast_S_S1x231x128x128 : S_.BroadcastsInDim S1x231x128x128 (![] : Fin 0 → Fin S1x231x128x128.rank)

variable [Facts]

def fn {F : FTy → Type} [FloatOps F] (main_arg0 : FVec F S1024x49x128 .f32) (main_arg1 : FVec F S1x231x128x128 .f32) : IVec S1024x49x128 1 × IVec S1x231x128x128 1 :=
  let main_v0 : FVec F S1024x49x128 .f32 := Host.absf main_arg0
  let main_cst : FVec F S_ .f32 := constant S_ .f32 0x7F800000#32
  let main_v1 : FVec F S1024x49x128 .f32 := broadcastInDim S1024x49x128 ![] bcast_S_S1024x49x128 main_cst
  let main_v2 : IVec S1024x49x128 1 := cmpf .olt main_v0 main_v1
  let main_v3 : FVec F S1x231x128x128 .f32 := Host.absf main_arg1
  let main_cst_0 : FVec F S_ .f32 := constant S_ .f32 0x7F800000#32
  let main_v4 : FVec F S1x231x128x128 .f32 := broadcastInDim S1x231x128x128 ![] bcast_S_S1x231x128x128 main_cst_0
  let main_v5 : IVec S1x231x128x128 1 := cmpf .olt main_v3 main_v4
  (main_v2, main_v5)
-- ==== Kernel.lean ====
abbrev S1024x49x128 : Shape := ⟨3, ![1024, 49, 128]⟩
abbrev S1x231x128x128 : Shape := ⟨4, ![1, 231, 128, 128]⟩
abbrev S49x1024x128 : Shape := ⟨3, ![49, 1024, 128]⟩
abbrev S49x128x128 : Shape := ⟨3, ![49, 128, 128]⟩
abbrev S1x128x128 : Shape := ⟨3, ![1, 128, 128]⟩
abbrev S128x128 : Shape := ⟨2, ![128, 128]⟩
abbrev S1x1x128x128 : Shape := ⟨4, ![1, 1, 128, 128]⟩

abbrev nBuf : Space → Nat
  | .hbm => 6
  | .vmem => 5
  | .smem => 0
  | _ => 0

abbrev bufTy : (tb : Table) → Fin (tcTables nBuf tb) → BufTy
  | .hbm, ⟨0, _⟩ => ⟨S1024x49x128, .f32⟩
  | .hbm, ⟨1, _⟩ => ⟨S1x231x128x128, .f32⟩
  | .hbm, ⟨2, _⟩ => ⟨S49x1024x128, .f32⟩
  | .hbm, ⟨3, _⟩ => ⟨S49x1024x128, .bf16⟩
  | .hbm, ⟨4, _⟩ => ⟨S49x1024x128, .f32⟩
  | .hbm, ⟨5, _⟩ => ⟨S1024x49x128, .f32⟩
  | .local _ .vmem, ⟨0, _⟩ => ⟨S49x128x128, .bf16⟩
  | .local _ .vmem, ⟨1, _⟩ => ⟨S49x128x128, .bf16⟩
  | .local _ .vmem, ⟨2, _⟩ => ⟨S1x231x128x128, .f32⟩
  | .local _ .vmem, ⟨3, _⟩ => ⟨S49x128x128, .f32⟩
  | .local _ .vmem, ⟨4, _⟩ => ⟨S49x128x128, .f32⟩
  | _, _ => ⟨S1024x49x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S49x128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x231x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S49x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S1024x49x128 : Shape := ⟨3, ![1024, 49, 128]⟩
abbrev S1x231x128x128 : Shape := ⟨4, ![1, 231, 128, 128]⟩
abbrev S413 : Shape := ⟨1, ![413]⟩
abbrev S_ : Shape := ⟨0, ![]⟩
abbrev S413x1 : Shape := ⟨2, ![413, 1]⟩
abbrev S1 : Shape := ⟨1, ![1]⟩
abbrev S1x1 : Shape := ⟨2, ![1, 1]⟩
abbrev S1024x413x128 : Shape := ⟨3, ![1024, 413, 128]⟩
abbrev S1x413x128x128 : Shape := ⟨4, ![1, 413, 128, 128]⟩
abbrev S1x413x1x1 : Shape := ⟨4, ![1, 413, 1, 1]⟩
abbrev S413x128x128 : Shape := ⟨3, ![413, 128, 128]⟩
abbrev S413x128x1024 : Shape := ⟨3, ![413, 128, 1024]⟩

abbrev nBuf : Space → Nat
  | .hbm => 69
  | .vmem => 0
  | .smem => 0
  | _ => 0

abbrev bufTy : (tb : Table) → Fin (tcTables nBuf tb) → BufTy
  | .hbm, ⟨0, _⟩ => ⟨S1024x49x128, .f32⟩
  | .hbm, ⟨1, _⟩ => ⟨S1x231x128x128, .f32⟩
  | .hbm, ⟨2, _⟩ => ⟨S413, .i32⟩
  | .hbm, ⟨3, _⟩ => ⟨S413, .i32⟩
  | .hbm, ⟨4, _⟩ => ⟨S413, .i32⟩
  | .hbm, ⟨5, _⟩ => ⟨S413, .f32⟩
  | .hbm, ⟨6, _⟩ => ⟨S_, .i32⟩
  | .hbm, ⟨7, _⟩ => ⟨S413, .i32⟩
  | .hbm, ⟨8, _⟩ => ⟨S413, .i1⟩
  | .hbm, ⟨9, _⟩ => ⟨S_, .i32⟩
  | .hbm, ⟨10, _⟩ => ⟨S413, .i32⟩
  | .hbm, ⟨11, _⟩ => ⟨S413, .i32⟩
  | .hbm, ⟨12, _⟩ => ⟨S413, .i32⟩
  | .hbm, ⟨13, _⟩ => ⟨S413x1, .i32⟩
  | .hbm, ⟨14, _⟩ => ⟨S1, .i32⟩
  | .hbm, ⟨15, _⟩ => ⟨S_, .i32⟩
  | .hbm, ⟨16, _⟩ => ⟨S413x1, .i32⟩
  | .hbm, ⟨17, _⟩ => ⟨S413x1, .i1⟩
  | .hbm, ⟨18, _⟩ => ⟨S1x1, .i32⟩
  | .hbm, ⟨19, _⟩ => ⟨S413x1, .i32⟩
  | .hbm, ⟨20, _⟩ => ⟨S413x1, .i1⟩
  | .hbm, ⟨21, _⟩ => ⟨S413x1, .i1⟩
  | .hbm, ⟨22, _⟩ => ⟨S_, .i1⟩
  | .hbm, ⟨23, _⟩ => ⟨S413, .i1⟩
  | .hbm, ⟨24, _⟩ => ⟨S1024x413x128, .f32⟩
  | .hbm, ⟨25, _⟩ => ⟨S1024x413x128, .i1⟩
  | .hbm, ⟨26, _⟩ => ⟨S_, .f32⟩
  | .hbm, ⟨27, _⟩ => ⟨S1024x413x128, .f32⟩
  | .hbm, ⟨28, _⟩ => ⟨S1024x413x128, .f32⟩
  | .hbm, ⟨29, _⟩ => ⟨S_, .i32⟩
  | .hbm, ⟨30, _⟩ => ⟨S413, .i32⟩
  | .hbm, ⟨31, _⟩ => ⟨S413, .i1⟩
  | .hbm, ⟨32, _⟩ => ⟨S_, .i32⟩
  | .hbm, ⟨33, _⟩ => ⟨S413, .i32⟩
  | .hbm, ⟨34, _⟩ => ⟨S413, .i32⟩
  | .hbm, ⟨35, _⟩ => ⟨S413, .i32⟩
  | .hbm, ⟨36, _⟩ => ⟨S413x1, .i32⟩
  | .hbm, ⟨37, _⟩ => ⟨S1, .i32⟩
  | .hbm, ⟨38, _⟩ => ⟨S_, .i32⟩
  | .hbm, ⟨39, _⟩ => ⟨S413x1, .i32⟩
  | .hbm, ⟨40, _⟩ => ⟨S413x1, .i1⟩
  | .hbm, ⟨41, _⟩ => ⟨S1x1, .i32⟩
  | .hbm, ⟨42, _⟩ => ⟨S413x1, .i32⟩
  | .hbm, ⟨43, _⟩ => ⟨S413x1, .i1⟩
  | .hbm, ⟨44, _⟩ => ⟨S413x1, .i1⟩
  | .hbm, ⟨45, _⟩ => ⟨S_, .i1⟩
  | .hbm, ⟨46, _⟩ => ⟨S413, .i1⟩
  | .hbm, ⟨47, _⟩ => ⟨S1x413x128x128, .f32⟩
  | .hbm, ⟨48, _⟩ => ⟨S1x413x128x128, .i1⟩
  | .hbm, ⟨49, _⟩ => ⟨S_, .f32⟩
  | .hbm, ⟨50, _⟩ => ⟨S1x413x128x128, .f32⟩
  | .hbm, ⟨51, _⟩ => ⟨S1x413x128x128, .f32⟩
  | .hbm, ⟨52, _⟩ => ⟨S1x413x1x1, .f32⟩
  | .hbm, ⟨53, _⟩ => ⟨S1x413x128x128, .f32⟩
  | .hbm, ⟨54, _⟩ => ⟨S1x413x128x128, .f32⟩
  | .hbm, ⟨55, _⟩ => ⟨S413x128x128, .f32⟩
  | .hbm, ⟨56, _⟩ => ⟨S413x128x1024, .f32⟩
  | .hbm, ⟨57, _⟩ => ⟨S1024x413x128, .f32⟩
  | .hbm, ⟨58, _⟩ => ⟨S_, .f32⟩
  | .hbm, ⟨59, _⟩ => ⟨S1024x49x128, .f32⟩
  | .hbm, ⟨60, _⟩ => ⟨S_, .i32⟩
  | .hbm, ⟨61, _⟩ => ⟨S413, .i32⟩
  | .hbm, ⟨62, _⟩ => ⟨S413, .i1⟩
  | .hbm, ⟨63, _⟩ => ⟨S_, .i32⟩
  | .hbm, ⟨64, _⟩ => ⟨S413, .i32⟩
  | .hbm, ⟨65, _⟩ => ⟨S413, .i32⟩
  | .hbm, ⟨66, _⟩ => ⟨S413, .i32⟩
  | .hbm, ⟨67, _⟩ => ⟨S413x1, .i32⟩
  | .hbm, ⟨68, _⟩ => ⟨S1024x49x128, .f32⟩
  | _, _ => ⟨S1024x49x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_cst : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v1 : Ref sig .tc := ⟨.hbm, 51, rfl⟩
abbrev main_v2 : Ref sig .tc := ⟨.hbm, 52, rfl⟩
abbrev main_v3 : Ref sig .tc := ⟨.hbm, 53, rfl⟩
abbrev main_v4 : Ref sig .tc := ⟨.hbm, 54, rfl⟩
abbrev main_v5 : Ref sig .tc := ⟨.hbm, 55, rfl⟩
abbrev main_v6 : Ref sig .tc := ⟨.hbm, 56, rfl⟩
abbrev main_v7 : Ref sig .tc := ⟨.hbm, 57, rfl⟩
abbrev main_cst_2 : Ref sig .tc := ⟨.hbm, 58, rfl⟩
abbrev main_v8 : Ref sig .tc := ⟨.hbm, 59, rfl⟩
abbrev main_c_3 : Ref sig .tc := ⟨.hbm, 60, rfl⟩
abbrev main_v9 : Ref sig .tc := ⟨.hbm, 61, rfl⟩
abbrev main_v10 : Ref sig .tc := ⟨.hbm, 62, rfl⟩
abbrev main_c_4 : Ref sig .tc := ⟨.hbm, 63, rfl⟩
abbrev main_v11 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩

abbrev nD : Nat := 1
abbrev τ : Topo := Topo.v7x

variable {F : FTy → Type} [FloatOps F]
-- ==== Proof.Table.lean ====
/- The 413 order pairs of the convolution, as rows: one per output order. -/
module

public import Mathlib.Data.Fin.VecNotation
public import Mathlib.Algebra.BigOperators.Group.List.Basic

@[expose] public section

namespace Cert.So2

/-- One pair of an output order: the input order it reads, whether its product is subtracted, and the
    weight matrix it takes. -/
abbrev Pair : Type := Fin 49 × Bool × Fin 231

/-- The pairs of output order 0, 1, …, 48, each row by increasing input order. -/
def rows : List (List Pair) := [
  [(0, false, 0), (2, false, 1), (6, false, 2), (12, false, 3), (20, false, 4), (30, false, 5), (42, false, 6)],
  [(1, false, 10), (3, false, 8), (5, false, 13), (7, false, 11), (11, false, 16), (13, false, 14), (19, false, 19), (21, false, 17), (29, false, 22), (31, false, 20), (41, false, 25), (43, false, 23)],
  [(0, false, 7), (2, false, 9), (6, false, 12), (12, false, 15), (20, false, 18), (30, false, 21), (42, false, 24)],
  [(1, true, 8), (3, false, 10), (5, true, 11), (7, false, 13), (11, true, 14), (13, false, 16), (19, true, 17), (21, false, 19), (29, true, 20), (31, false, 22), (41, true, 23), (43, false, 25)],
  [(4, false, 34), (8, false, 30), (10, false, 39), (14, false, 35), (18, false, 44), (22, false, 40), (28, false, 49), (32, false, 45), (40, false, 54), (44, false, 50)],
  [(1, false, 29), (3, false, 27), (5, false, 33), (7, false, 31), (11, false, 38), (13, false, 36), (19, false, 43), (21, false, 41), (29, false, 48), (31, false, 46), (41, false, 53), (43, false, 51)],
  [(0, false, 26), (2, false, 28), (6, false, 32), (12, false, 37), (20, false, 42), (30, false, 47), (42, false, 52)],
  [(1, true, 27), (3, false, 29), (5, true, 31), (7, false, 33), (11, true, 36), (13, false, 38), (19, true, 41), (21, false, 43), (29, true, 46), (31, false, 48), (41, true, 51), (43, false, 53)],
  [(4, true, 30), (8, false, 34), (10, true, 35), (14, false, 39), (18, true, 40), (22, false, 44), (28, true, 45), (32, false, 49), (40, true, 50), (44, false, 54)],
  [(9, false, 70), (15, false, 64), (17, false, 77), (23, false, 71), (27, false, 84), (33, false, 78), (39, false, 91), (45, false, 85)],
  [(4, false, 63), (8, false, 59), (10, false, 69), (14, false, 65), (18, false, 76), (22, false, 72), (28, false, 83), (32, false, 79), (40, false, 90), (44, false, 86)],
  [(1, false, 58), (3, false, 56), (5, false, 62), (7, false, 60), (11, false, 68), (13, false, 66), (19, false, 75), (21, false, 73), (29, false, 82), (31, false, 80), (41, false, 89), (43, false, 87)],
  [(0, false, 55), (2, false, 57), (6, false, 61), (12, false, 67), (20, false, 74), (30, false, 81), (42, false, 88)],
  [(1, true, 56), (3, false, 58), (5, true, 60), (7, false, 62), (11, true, 66), (13, false, 68), (19, true, 73), (21, false, 75), (29, true, 80), (31, false, 82), (41, true, 87), (43, false, 89)],
  [(4, true, 59), (8, false, 63), (10, true, 65), (14, false, 69), (18, true, 72), (22, false, 76), (28, true, 79), (32, false, 83), (40, true, 86), (44, false, 90)],
  [(9, true, 64), (15, false, 70), (17, true, 71), (23, false, 77), (27, true, 78), (33, false, 84), (39, true, 85), (45, false, 91)],
  [(16, false, 116), (24, false, 108), (26, false, 125), (34, false, 117), (38, false, 134), (46, false, 126)],
  [(9, false, 107), (15, false, 101), (17, false, 115), (23, false, 109), (27, false, 124), (33, false, 118), (39, false, 133), (45, false, 127)],
  [(4, false, 100), (8, false, 96), (10, false, 106), (14, false, 102), (18, false, 114), (22, false, 110), (28, false, 123), (32, false, 119), (40, false, 132), (44, false, 128)],
  [(1, false, 95), (3, false, 93), (5, false, 99), (7, false, 97), (11, false, 105), (13, false, 103), (19, false, 113), (21, false, 111), (29, false, 122), (31, false, 120), (41, false, 131), (43, false, 129)],
  [(0, false, 92), (2, false, 94), (6, false, 98), (12, false, 104), (20, false, 112), (30, false, 121), (42, false, 130)],
  [(1, true, 93), (3, false, 95), (5, true, 97), (7, false, 99), (11, true, 103), (13, false, 105), (19, true, 111), (21, false, 113), (29, true, 120), (31, false, 122), (41, true, 129), (43, false, 131)],
  [(4, true, 96), (8, false, 100), (10, true, 102), (14, false, 106), (18, true, 110), (22, false, 114), (28, true, 119), (32, false, 123), (40, true, 128), (44, false, 132)],
  [(9, true, 101), (15, false, 107), (17, true, 109), (23, false, 115), (27, true, 118), (33, false, 124), (39, true, 127), (45, false, 133)],
  [(16, true, 108), (24, false, 116), (26, true, 117), (34, false, 125), (38, true, 126), (46, false, 134)],
  [(25, false, 170), (35, false, 160), (37, false, 181), (47, false, 171)],
  [(16, false, 159), (24, false, 151), (26, false, 169), (34, false, 161), (38, false, 180), (46, false, 172)],
  [(9, false, 150), (15, false, 144), (17, false, 158), (23, false, 152), (27, false, 168), (33, false, 162), (39, false, 179), (45, false, 173)],
  [(4, false, 143), (8, false, 139), (10, false, 149), (14, false, 145), (18, false, 157), (22, false, 153), (28, false, 167), (32, false, 163), (40, false, 178), (44, false, 174)],
  [(1, false, 138), (3, false, 136), (5, false, 142), (7, false, 140), (11, false, 148), (13, false, 146), (19, false, 156), (21, false, 154), (29, false, 166), (31, false, 164), (41, false, 177), (43, false, 175)],
  [(0, false, 135), (2, false, 137), (6, false, 141), (12, false, 147), (20, false, 155), (30, false, 165), (42, false, 176)],
  [(1, true, 136), (3, false, 138), (5, true, 140), (7, false, 142), (11, true, 146), (13, false, 148), (19, true, 154), (21, false, 156), (29, true, 164), (31, false, 166), (41, true, 175), (43, false, 177)],
  [(4, true, 139), (8, false, 143), (10, true, 145), (14, false, 149), (18, true, 153), (22, false, 157), (28, true, 163), (32, false, 167), (40, true, 174), (44, false, 178)],
  [(9, true, 144), (15, false, 150), (17, true, 152), (23, false, 158), (27, true, 162), (33, false, 168), (39, true, 173), (45, false, 179)],
  [(16, true, 151), (24, false, 159), (26, true, 161), (34, false, 169), (38, true, 172), (46, false, 180)],
  [(25, true, 160), (35, false, 170), (37, true, 171), (47, false, 181)],
  [(36, false, 230), (48, false, 218)],
  [(25, false, 217), (35, false, 207), (37, false, 229), (47, false, 219)],
  [(16, false, 206), (24, false, 198), (26, false, 216), (34, false, 208), (38, false, 228), (46, false, 220)],
  [(9, false, 197), (15, false, 191), (17, false, 205), (23, false, 199), (27, false, 215), (33, false, 209), (39, false, 227), (45, false, 221)],
  [(4, false, 190), (8, false, 186), (10, false, 196), (14, false, 192), (18, false, 204), (22, false, 200), (28, false, 214), (32, false, 210), (40, false, 226), (44, false, 222)],
  [(1, false, 185), (3, false, 183), (5, false, 189), (7, false, 187), (11, false, 195), (13, false, 193), (19, false, 203), (21, false, 201), (29, false, 213), (31, false, 211), (41, false, 225), (43, false, 223)],
  [(0, false, 182), (2, false, 184), (6, false, 188), (12, false, 194), (20, false, 202), (30, false, 212), (42, false, 224)],
  [(1, true, 183), (3, false, 185), (5, true, 187), (7, false, 189), (11, true, 193), (13, false, 195), (19, true, 201), (21, false, 203), (29, true, 211), (31, false, 213), (41, true, 223), (43, false, 225)],
  [(4, true, 186), (8, false, 190), (10, true, 192), (14, false, 196), (18, true, 200), (22, false, 204), (28, true, 210), (32, false, 214), (40, true, 222), (44, false, 226)],
  [(9, true, 191), (15, false, 197), (17, true, 199), (23, false, 205), (27, true, 209), (33, false, 215), (39, true, 221), (45, false, 227)],
  [(16, true, 198), (24, false, 206), (26, true, 208), (34, false, 216), (38, true, 220), (46, false, 228)],
  [(25, true, 207), (35, false, 217), (37, true, 219), (47, false, 229)],
  [(36, true, 218), (48, false, 230)]]

/-- The pairs of output order `o`. -/
def row (o : Fin 49) : List Pair := rows.getD o []

/-- Every pair with its output order in front, by increasing output order. -/
def flat : List (Fin 49 × Pair) := (List.finRange 49).flatMap fun o => (row o).map fun q => (o, q)

/-- Summing `f` over the pairs of all orders, but only where the output order is `o`, is summing over row `o`. -/
theorem sum_flat {M : Type} [AddCommMonoid M] (f : Pair → M) (o : Fin 49) :
    (flat.map fun e => if e.1 = o then f e.2 else 0).sum = ((row o).map f).sum := by
  have key : ∀ l : List (Fin 49), l.Nodup →
      ((l.flatMap fun a => (row a).map fun q => (a, q)).map fun e : Fin 49 × Pair => if e.1 = o then f e.2 else 0).sum
        = if o ∈ l then ((row o).map f).sum else 0 := by
    intro l
    induction l with
    | nil => intro _; simp
    | cons a l ih =>
      intro h
      rw [List.nodup_cons] at h
      rw [List.flatMap_cons, List.map_append, List.sum_append, ih h.2, List.map_map]
      by_cases ha : a = o
      · subst ha
        simp [h.1, Function.comp_def]
      · simp [ha, Ne.symm ha, Function.comp_def]
  have := key (List.finRange 49) (List.nodup_finRange 49)
  simpa [flat] using this

end Cert.So2
-- ==== Proof.Block.lean ====
/- What one grid point of the kernel leaves in its output block, as one signed sum per output order. -/
module

public import proofs.«01_k».proof.Proof.Table
public import proofs.«01_k».proof.Proof.Gen.KernelIdeal.Frame
public import Idealize.ShloMosaic.Lib.Pipeline.Value
public import Idealize.ShloMosaic.Lib.MatmulPlain

@[expose] public section

noncomputable section

namespace Cert.So2

open Cert.KernelIdeal Cert.KernelIdeal.Gen Idealize.ShloMosaic

variable {F : FTy → Type} [FloatOps F]

/-- Order `i` of a block of 49 orders. -/
abbrev orderRect (i : Fin 49) : Rect S49x128x128 :=
  Rect.unit (s := S49x128x128) ![i, 0, 0] S1x128x128.size (by
    intro a; have := i.isLt; fin_cases a <;> simp [S1x128x128, S49x128x128] <;> omega)

/-- Matrix `j` of the weight's 231 matrices. -/
abbrev matrixRect (j : Fin 231) : Rect S1x231x128x128 :=
  Rect.unit (s := S1x231x128x128) ![0, j, 0, 0] S1x1x128x128.size (by
    intro a; have := j.isLt; fin_cases a <;> simp [S1x1x128x128, S1x231x128x128] <;> omega)

/-- The product of order `i` of the block `x` with matrix `j` of `w`. -/
def product (x : Vec F S49x128x128 .bf16) (w : Vec F S1x231x128x128 .f32) (i : Fin 49) (j : Fin 231) : FVec F S128x128 .f32 :=
  matmul dot_S128x128_S128x128_S128x128_1_0_0_1_n_n none
    (shapeCast S128x128 (View.ld x (orderRect i)) shapeCasts_S1x128x128_S128x128 : FVec F S128x128 .bf16)
    (shapeCast S128x128 (View.ld w (matrixRect j)) shapeCasts_S1x1x128x128_S128x128 : FVec F S128x128 .f32)
    (constant S128x128 .f32 0x00000000#32)

/-- A running sum with one more pair's product added to it or subtracted from it. -/
def next (x : Vec F S49x128x128 .bf16) (w : Vec F S1x231x128x128 .f32) (acc : FVec F S128x128 .f32) (q : Pair) : FVec F S128x128 .f32 :=
  match q.2.1 with
  | false => addf acc (product x w q.1 q.2.2)
  | true => subf acc (product x w q.1 q.2.2)

/-- A running sum's first value: the first pair's product, or its negation as the kernel takes it, from zero. -/
def first (x : Vec F S49x128x128 .bf16) (w : Vec F S1x231x128x128 .f32) (q : Pair) : FVec F S128x128 .f32 :=
  match q.2.1 with
  | false => product x w q.1 q.2.2
  | true => subf (broadcast S128x128 (Scalar.ofBits .f32 0x00000000#32)) (product x w q.1 q.2.2)

/-- The running sum over a row of pairs. -/
def chain (x : Vec F S49x128x128 .bf16) (w : Vec F S1x231x128x128 .f32) : List Pair → FVec F S128x128 .f32
  | [] => constant S128x128 .f32 0x00000000#32
  | q :: l => l.foldl (next x w) (first x w q)

/-- The store of output order `o`. -/
def piece (x : Vec F S49x128x128 .bf16) (w : Vec F S1x231x128x128 .f32) (o : Fin 49) : View.Piece (Elt F) S49x128x128 .f32 :=
  ⟨orderRect o, shapeCast S1x128x128 (chain x w (row o)) shapeCasts_S128x128_S1x128x128⟩

set_option maxRecDepth 100000 in
set_option maxHeartbeats 4000000 in
/-- The block the kernel's body leaves is its 49 stores, one per output order. -/
theorem out_eq (x : Vec F S49x128x128 .bf16) (w : Vec F S1x231x128x128 .f32) :
    out0_2 x w = View.canon (List.ofFn fun k : Fin 49 => piece x w k.rev) := rfl

/-! ## Read at an index, over the extended reals -/

open Idealize.ShloMosaic.ValueIdx

/-- `a`, negated when the flag says so. -/
def signed (b : Bool) (a : EReal) : EReal :=
  match b with
  | false => a
  | true => -a

/-- Element (r, c) of a pair's product is the sum over the 128 channels `k` of order `i`'s element (r, k) times matrix
    `j`'s element (k, c). -/
theorem product_apply (x : Vec Ideal S49x128x128 .bf16) (w : Vec Ideal S1x231x128x128 .f32) (i : Fin 49) (j : Fin 231) (r c : Fin 128) :
    product x w i j (ix2 r c) = ∑ k : Fin 128, x (ix3 i r k) * w (ix4 (0 : Fin 1) j k c) := by
  unfold product
  refine (Ideal.matmul_plain_apply (M := 128) (K := 128) (N := 128) none _ _ _ r c).trans ?_
  rw [show constant (F := Ideal) S128x128 .f32 0x00000000#32 (ix2 r c) = 0 from Ideal.ofBits_zero_f32, zero_add]
  refine Finset.sum_congr rfl fun k _ => congrArg₂ (· * ·) ?_ ?_
  · refine (shapeCast_apply _ _ (ix2 r k) (ix3 (0 : Fin 1) r k) ?_).trans (congrArg x (funext fun a => Fin.ext ?_))
    · rw [Shape.rowMajor_val_three, Shape.rowMajor_val_two]; show (0 * 128 + r.val) * 128 + k.val = r.val * 128 + k.val; omega
    · match a with
      | ⟨0, _⟩ => show i.val + 1 * 0 = i.val; omega
      | ⟨1, _⟩ => show 0 + 1 * r.val = r.val; omega
      | ⟨2, _⟩ => show 0 + 1 * k.val = k.val; omega
  · refine (shapeCast_apply _ _ (ix2 k c) (ix4 (0 : Fin 1) (0 : Fin 1) k c) ?_).trans (congrArg w (funext fun a => Fin.ext ?_))
    · rw [Shape.rowMajor_val_four, Shape.rowMajor_val_two]
      show ((0 * 1 + 0) * 128 + k.val) * 128 + c.val = k.val * 128 + c.val; omega
    · match a with
      | ⟨0, _⟩ => rfl
      | ⟨1, _⟩ => show j.val + 1 * 0 = j.val; omega
      | ⟨2, _⟩ => show 0 + 1 * k.val = k.val; omega
      | ⟨3, _⟩ => show 0 + 1 * c.val = c.val; omega

/-- The running sum over a row, at an index: the sum of the row's products there, each with its sign. -/
theorem chain_apply (x : Vec Ideal S49x128x128 .bf16) (w : Vec Ideal S1x231x128x128 .f32) (l : List Pair) (y : S128x128.Idx) :
    chain x w l y = (l.map fun q => signed q.2.1 (product x w q.1 q.2.2 y)).sum := by
  have hnext : ∀ (l : List Pair) (acc : FVec Ideal S128x128 .f32),
      l.foldl (next x w) acc y = acc y + (l.map fun q => signed q.2.1 (product x w q.1 q.2.2 y)).sum := by
    intro l
    induction l with
    | nil => intro acc; simp
    | cons q l ih =>
      intro acc
      have hq : next x w acc q y = acc y + signed q.2.1 (product x w q.1 q.2.2 y) := by
        obtain ⟨i, b, j⟩ := q
        cases b
        · rfl
        · exact sub_eq_add_neg _ _
      rw [List.foldl_cons, ih, hq, List.map_cons, List.sum_cons, add_assoc]
  cases l with
  | nil => exact Ideal.ofBits_zero_f32
  | cons q l =>
    have hq : first x w q y = signed q.2.1 (product x w q.1 q.2.2 y) := by
      obtain ⟨i, b, j⟩ := q
      cases b
      · rfl
      · show Ideal.ofBits .f32 0x00000000#32 - product x w i j y = -product x w i j y
        rw [Ideal.ofBits_zero_f32, zero_sub]
    show l.foldl (next x w) (first x w q) y = _
    rw [hnext, hq, List.map_cons, List.sum_cons]

/-- Element (o, r, c) of the block the body leaves: the signed sum, over output order `o`'s pairs, of the channel sums. -/
theorem out_apply (x : Vec Ideal S49x128x128 .bf16) (w : Vec Ideal S1x231x128x128 .f32) (o : Fin 49) (r c : Fin 128) :
    out0_2 x w (ix3 o r c)
      = ((row o).map fun q => signed q.2.1 (∑ k : Fin 128, x (ix3 q.1 r k) * w (ix4 (0 : Fin 1) q.2.2 k c))).sum := by
  have hemb : ∀ (o : Fin 49) (z : S1x128x128.Idx), (orderRect o).emb z = ix3 o (z 1) (z 2) := by
    intro o z
    have h0 : (z 0).val = 0 := by have h : (z 0).val < 1 := (z 0).isLt; omega
    funext a; apply Fin.ext
    match a with
    | ⟨0, _⟩ => show o.val + 1 * (z 0).val = o.val; omega
    | ⟨1, _⟩ => show 0 + 1 * (z 1).val = (z 1).val; omega
    | ⟨2, _⟩ => show 0 + 1 * (z 2).val = (z 2).val; omega
  rw [out_eq, View.canon_apply_of_pieces (fun y : S49x128x128.Idx => chain x w (row (y 0)) (ix2 (y 1) (y 2)))]
  · refine (chain_apply x w (row o) (ix2 r c)).trans ?_
    simp only [product_apply]
  · intro p hp z
    obtain ⟨k, rfl⟩ := (List.mem_ofFn).mp hp
    show shapeCast S1x128x128 (chain x w (row k.rev)) shapeCasts_S128x128_S1x128x128 z = _
    rw [show (piece x w k.rev).1.emb z = ix3 k.rev (z 1) (z 2) from hemb k.rev z]
    refine shapeCast_apply _ _ z (ix2 (z 1) (z 2)) ?_
    have h0 : (z 0).val = 0 := by have h : (z 0).val < 1 := (z 0).isLt; omega
    rw [Shape.rowMajor_val_three, Shape.rowMajor_val_two]
    show (z 1).val * 128 + (z 2).val = ((z 0).val * 128 + (z 1).val) * 128 + (z 2).val
    omega
  · refine ⟨piece x w o, (List.mem_ofFn).mpr ⟨o.rev, by rw [Fin.rev_rev]⟩, ?_⟩
    rw [show ix3 o r c = (orderRect o).emb (ix3 (0 : Fin 1) r c) from (hemb o (ix3 (0 : Fin 1) r c)).symm]
    show _ ∈ (orderRect o).set
    rw [← Rect.map_emb_univ]
    exact Finset.mem_map_of_mem _ (Finset.mem_univ _)

end Cert.So2

end
-- ==== Proof.Value.lean ====
/- What the program's run leaves in its result, as one function of its two arguments, over the extended reals. -/
module

public import proofs.«01_k».proof.Proof.Block
public import Idealize.ShloMosaic.Lib.Pipeline.ValueKit.Geometry

@[expose] public section

noncomputable section

namespace Cert.So2

open Cert.KernelIdeal Cert.KernelIdeal.Gen Idealize.ShloMosaic Idealize.ShloMosaic.TcCoe Idealize.SL.Sem
open Idealize.ShloMosaic.ValueIdx

/-- What a pair adds to sample `n`, output channel `c`: its order's 128 channels against its matrix' column, signed. -/
def term (x : S1024x49x128.Idx → EReal) (w : S1x231x128x128.Idx → EReal) (n : Fin 1024) (c : Fin 128) (q : Pair) : EReal :=
  signed q.2.1 (∑ k : Fin 128, x (ix3 n q.1 k) * w (ix4 (0 : Fin 1) q.2.2 k c))

/-- The result at sample `n`, output order `o`, channel `c`: the sum of what the pairs of `o` add. -/
def total (x : S1024x49x128.Idx → EReal) (w : S1x231x128x128.Idx → EReal) (n : Fin 1024) (o : Fin 49) (c : Fin 128) : EReal :=
  ((row o).map (term x w n c)).sum

/-- The result array. -/
def result (x : S1024x49x128.Idx → EReal) (w : S1x231x128x128.Idx → EReal) : S1024x49x128.Idx → EReal :=
  fun y => total x w (y 0) (y 1) (y 2)

variable (m : (ℓ : Loc nD τ sig) → Buf (Elt Ideal) ℓ) (ρ : Dev nD → PrngReg)

/-- Block indices: point `t` reads and writes samples `128 t` to `128 t + 127`, and reads every matrix. -/
theorem index0 : ∀ t : Fin cfg0.N, win0_0.index t = ![0, t.val, 0] := (by decide +kernel : ∀ t : Fin grid0.N, _)
theorem index1 : ∀ t : Fin cfg0.N, win0_1.index t = ![0, 0, 0, 0] := (by decide +kernel : ∀ t : Fin grid0.N, _)
theorem index2 : ∀ t : Fin cfg0.N, win0_2.index t = ![0, t.val, 0] := (by decide +kernel : ∀ t : Fin grid0.N, _)

/-- The region finds the samples with their first two axes exchanged. -/
theorem V_main_v1 (d : Dev nD) (i : Fin 49) (n : Fin 1024) (k : Fin 128) :
    V m d main_v1 (ix3 i n k) = m ((d : Thread nD τ).loc main_arg0) (ix3 n i k) := by
  unfold V V0
  simp only [hostOps0, List.flatten_cons, List.flatten_nil, List.append_nil]
  after_results
  exact transpose_apply [1, 0, 2] (m ((d : Thread nD τ).loc main_arg0)) transposes_S1024x49x128_S49x1024x128_1_0_2 (ix3 i n k) (ix3 n i k)
    (fun a => by match a with | ⟨0, _⟩ => rfl | ⟨1, _⟩ => rfl | ⟨2, _⟩ => rfl)

/-- Where sample `r` of point `t`'s block lies in the whole. -/
def sample (t : Fin cfg0.N) (r : Fin 128) : Fin 1024 :=
  ⟨t.val * 128 + r.val, by have h : t.val < 8 := t.isLt; have := r.isLt; omega⟩

/-- The block of samples that point `t` reads. -/
theorem iblk0_apply (d : Dev nD) (t : Fin cfg0.N) (i : Fin 49) (r k : Fin 128) :
    iblk m d 0 t (ix3 i r k) = m ((d : Thread nD τ).loc main_arg0) (ix3 (sample t r) i k) := by
  rw [← V_main_v1 m d]
  blk_simp [iblk]
  refine congrArg (V m d main_v1) ?_
  blk_ext [index0, sample]

/-- The block of matrices is all of them. -/
theorem iblk1_apply (d : Dev nD) (t : Fin cfg0.N) (j : Fin 231) (k c : Fin 128) :
    iblk m d 1 t (ix4 (0 : Fin 1) j k c) = m ((d : Thread nD τ).loc main_arg1) (ix4 (0 : Fin 1) j k c) := by
  rw [← V_main_arg1 m d]
  blk_simp [iblk]
  refine congrArg (V m d main_arg1) ?_
  blk_ext [index1]

/-- The array the region writes: the result with its first two axes exchanged. -/
theorem array (d : Dev nD) :
    (dats m 0 d).arrAt 2 cfg0.N = fun y : S49x1024x128.Idx =>
      total (m ((d : Thread nD τ).loc main_arg0)) (m ((d : Thread nD τ).loc main_arg1)) (y 1) (y 0) (y 2) := by
  refine (dats m 0 d).arrAt_eq_of_covers 2 _ (by decide +kernel) fun t hf y => ?_
  blk_simp
  rw [after0_2]
  have hy : y = ix3 (y 0) (y 1) (y 2) := eq_ix3 y
  have e : ((win0_2.blk t).view.emb y) = ix3 (y 0) (sample t (y 1)) (y 2) := by
    blk_ext [index2, sample]
  rw [e, hy]
  refine (out_apply _ _ (y 0) (y 1) (y 2)).trans ?_
  exact congrArg List.sum (List.map_congr_left fun q _ => congrArg (signed q.2.1) (Finset.sum_congr rfl fun k _ =>
    congrArg₂ (· * ·) (iblk0_apply m d t q.1 (y 1) k) (iblk1_apply m d t q.2.2 k (y 2))))

/-- The run: the result array holds `result` of the two arguments, which are as launched. -/
theorem run : θ_run defs (onTc (τ := τ) (main (F := Ideal))) ⟨m, fun _ => 0, ρ⟩ fun r => ∀ d : Dev nD,
      r.2.mem ((d : Thread nD τ).loc main_v3)
        = result (m ((d : Thread nD τ).loc main_arg0)) (m ((d : Thread nD τ).loc main_arg1))
      ∧ r.2.mem ((d : Thread nD τ).loc main_arg0) = m ((d : Thread nD τ).loc main_arg0)
      ∧ r.2.mem ((d : Thread nD τ).loc main_arg1) = m ((d : Thread nD τ).loc main_arg1) := by
  refine (θ_run defs _ _).mono (fun r h d => ⟨?_, ?_, ?_⟩) (run_main m ρ)
  · refine (h d).2 main_v3 (Pipeline.mem_restRefs_of main_v3 (by decide) (by decide)) |>.trans ?_
    unfold Pipeline.afterTail₀
    simp only [hostOps1, List.flatten_cons, List.flatten_nil, List.append_nil]
    after_results
    funext y
    refine (transpose_apply [1, 0, 2] _ transposes_S49x1024x128_S1024x49x128_1_0_2 y (ix3 (y 1) (y 0) (y 2))
      (fun a => by match a with | ⟨0, _⟩ => rfl | ⟨1, _⟩ => rfl | ⟨2, _⟩ => rfl)).trans ?_
    refine (congrFun (Pipeline.withArrays_arr spec0 launch0.win.arr_inj d (V0 m d) (fun w => (dats m 0 d).arrAt w cfg0.N) 2) _).trans ?_
    rw [array]
    rfl
  · exact ((h d).2 main_arg0 (Pipeline.mem_restRefs_of main_arg0 (by decide) (by decide))).trans (W_main_arg0 m (dats m) d)
  · exact ((h d).1 1).trans (((dats m 0 d).arrAt_in 1 rfl _).trans ((A_eq m d 1).trans (V_main_arg1 m d)))

end Cert.So2

end
-- ==== Proof.RefTable.lean ====
/- The reference's four index tables, read against the rows of the kernel. -/
module

public import proofs.«01_k».proof.Proof.Table
public import proofs.«01_k».proof.ReferenceIdeal

@[expose] public section

namespace Cert.So2

open Cert.ReferenceIdeal

set_option maxRecDepth 100000 in
/-- There are 413 pairs. -/
theorem flat_length : flat.length = 413 := by decide +kernel

/-- Pair `p` of the reference: its output order, then what the kernel's row says of it. -/
def entry (p : Fin 413) : Fin 49 × Pair := flat.get (p.cast flat_length.symm)

/-- The reference's table of input orders. -/
theorem lit0_eq : ∀ p : Fin 413, lit0 p = BitVec.ofNat 32 (entry p).2.1.val := by decide +kernel
/-- The reference's table of output orders. -/
theorem lit1_eq : ∀ p : Fin 413, lit1 p = BitVec.ofNat 32 (entry p).1.val := by decide +kernel
/-- The reference's table of matrices. -/
theorem lit2_eq : ∀ p : Fin 413, lit2 p = BitVec.ofNat 32 (entry p).2.2.2.val := by decide +kernel
/-- The reference's table of signs: the word of −1 for the pairs the kernel subtracts, of 1 for the others. -/
theorem lit3_eq : ∀ p : Fin 413, lit3 p = bif (entry p).2.2.1 then 0xBF800000#32 else 0x3F800000#32 := by decide +kernel

/-- A sum over the places of a list is the sum of the list. -/
theorem sum_places {α M : Type} [AddCommMonoid M] (g : α → M) (l : List α) (n : Nat) (h : l.length = n) :
    (∑ p : Fin n, g (l.get (p.cast h.symm))) = (l.map g).sum := by
  subst h
  rw [← List.sum_ofFn]
  refine congrArg List.sum (List.ext_getElem (by simp) fun n h _ => ?_)
  simp

/-- A sum over the reference's pairs, of those with output order `o`, is the sum over row `o`. -/
theorem sum_entry {M : Type} [AddCommMonoid M] (f : Pair → M) (o : Fin 49) :
    (∑ p : Fin 413, if (entry p).1 = o then f (entry p).2 else 0) = ((row o).map f).sum :=
  (sum_places (fun e : Fin 49 × Pair => if e.1 = o then f e.2 else 0) flat 413 flat_length).trans (sum_flat f o)

end Cert.So2
-- ==== Proof.RefValue.lean ====
/- The reference's result at an index, over the extended reals. -/
module

public import proofs.«01_k».proof.Proof.RefTable
public import proofs.«01_k».proof.Proof.Gen.ReferenceIdeal.Run
public import Idealize.ShloMosaic.Lib.MatmulPlain
public import Idealize.ShloMosaic.Lib.IdealHost
public import Idealize.ShloMosaic.Lib.ReduceAll
public import Idealize.ShloMosaic.Lib.Pipeline.Value

@[expose] public section

noncomputable section

namespace Cert.So2

open Cert.ReferenceIdeal Cert.ReferenceIdeal.Gen Idealize.ShloMosaic Idealize.ShloMosaic.TcCoe Idealize.SL.Sem
open Idealize.ShloMosaic.ValueIdx

/-! ## The index tables -/

/-- A table of 413 words as a column, `n` added to the words that are negative. -/
def column (n : BitVec 32) (l : Fin 413 → BitVec 32) : IVec S413x1 32 :=
  broadcastInDim S413x1 ![0] bcast_S413_S413x1_0
    (select (cmpi .slt (fun i => l (S413.rowMajor i)) (broadcastInDim S413 ![] bcast_S_S413 (constantI S_ 32 0#32)))
      (addi (fun i => l (S413.rowMajor i)) (broadcastInDim S413 ![] bcast_S_S413 (constantI S_ 32 n)))
      (fun i => l (S413.rowMajor i)))

/-- Which places of a column are between 0 and `b`. -/
def between (b : BitVec 32) (idx : IVec S413x1 32) : IVec S413 1 :=
  Host.reduce IntOp.andi
    (andi (cmpi .sge idx (broadcastInDim S413x1 ![] bcast_S_S413x1 (constantI S_ 32 0#32)))
      (cmpi .sle idx (broadcastInDim S413x1 ![0, 1] bcast_S1x1_S413x1_0_1 (broadcastInDim S1x1 ![1] bcast_S1_S1x1_1 (constantI S1 32 b)))))
    (constantI S_ 1 1#1) reducesTo_S413x1_S413_d1 h_S_

/-- The word of a number below 2³¹, read signed, is the number. -/
theorem toInt_word (v : Nat) (h : v < 231) : (BitVec.ofNat 32 v).toInt = v := by
  rw [BitVec.toInt_ofNat', Int.bmod_def]; omega

/-- The column of a table of small numbers holds the table. -/
theorem column_apply (n : BitVec 32) (l : Fin 413 → BitVec 32) (v : Fin 413 → Nat) (hv : ∀ p, v p < 231)
    (hl : ∀ p, l p = BitVec.ofNat 32 (v p)) (p : Fin 413) (z : Fin 1) : column n l (ix2 p z) = BitVec.ofNat 32 (v p) := by
  have hp : S413.rowMajor (ix1 p : S413.Idx) = p := Fin.ext (Shape.rowMajor_val_one (ix1 p : (⟨1, ![413]⟩ : Shape).Idx))
  have hb : column n l (ix2 p z)
      = select (cmpi .slt (fun i => l (S413.rowMajor i)) (broadcastInDim S413 ![] bcast_S_S413 (constantI S_ 32 0#32)))
        (addi (fun i => l (S413.rowMajor i)) (broadcastInDim S413 ![] bcast_S_S413 (constantI S_ 32 n)))
        (fun i => l (S413.rowMajor i)) (ix1 p) := by
    unfold column broadcastInDim
    refine congrArg _ (funext fun a => ?_)
    match a with
    | ⟨0, _⟩ => rfl
  have hc : IntOp.cmpi .slt (l (S413.rowMajor (ix1 p : S413.Idx))) 0#32 = 0#1 := by
    rw [hp, hl]
    show BitVec.ofBool ((BitVec.ofNat 32 (v p)).slt 0#32) = 0#1
    rw [BitVec.slt_eq_decide, toInt_word _ (hv p), decide_eq_false (by rw [BitVec.toInt_zero]; exact not_lt.mpr (Int.natCast_nonneg _))]
    rfl
  rw [hb, select_apply]
  show Scalar.select (IntOp.cmpi .slt (l (S413.rowMajor (ix1 p : S413.Idx))) 0#32) _ (l (S413.rowMajor (ix1 p : S413.Idx))) = _
  rw [hc, select_zero, hp, hl]

/-- A column of numbers up to `b` lies between 0 and `b`. -/
theorem between_apply (b : Nat) (hb : b < 231) (idx : IVec S413x1 32) (v : Fin 413 → Nat) (hv : ∀ p, v p ≤ b)
    (hi : ∀ p z, idx (ix2 p z) = BitVec.ofNat 32 (v p)) (j : S413.Idx) : between (BitVec.ofNat 32 b) idx j = 1#1 := by
  unfold between
  refine Host.reduce_andi_one _ _ _ _ _ rfl fun i => ?_
  obtain ⟨p, z, rfl⟩ : ∃ (p : Fin 413) (z : Fin 1), i = ix2 p z := ⟨i 0, i 1, eq_ix2 i⟩
  show IntOp.andi (BitVec.ofBool ((0#32).sle (idx (ix2 p z)))) (BitVec.ofBool ((idx (ix2 p z)).sle (BitVec.ofNat 32 b))) = 1#1
  rw [hi, BitVec.sle_eq_decide, BitVec.sle_eq_decide, toInt_word _ (lt_of_le_of_lt (hv p) hb), toInt_word _ hb,
    decide_eq_true (by simp), decide_eq_true (by exact_mod_cast hv p)]
  rfl

/-- The input orders, the output orders and the matrices as columns. -/
theorem column0 (p : Fin 413) (z : Fin 1) : column 49#32 lit0 (ix2 p z) = BitVec.ofNat 32 (entry p).2.1.val :=
  column_apply _ _ (fun p => (entry p).2.1.val) (fun p => by have := (entry p).2.1.isLt; omega) lit0_eq p z
theorem column1 (p : Fin 413) (z : Fin 1) : column 49#32 lit1 (ix2 p z) = BitVec.ofNat 32 (entry p).1.val :=
  column_apply _ _ (fun p => (entry p).1.val) (fun p => by have := (entry p).1.isLt; omega) lit1_eq p z
theorem column2 (p : Fin 413) (z : Fin 1) : column 231#32 lit2 (ix2 p z) = BitVec.ofNat 32 (entry p).2.2.2.val :=
  column_apply _ _ (fun p => (entry p).2.2.2.val) (fun p => (entry p).2.2.2.isLt) lit2_eq p z

/-! ## The gathered orders and matrices -/

variable (x : S1024x49x128.Idx → EReal) (w : S1x231x128x128.Idx → EReal)

/-- The input orders of the 413 pairs. -/
def orders : FVec Ideal S1024x413x128 .f32 :=
  select (broadcastInDim S1024x413x128 ![1] bcast_S413_S1024x413x128_1 (between 48#32 (column 49#32 lit0)))
    (Host.gather gather_S1024x49x128_S413x1_S1024x413x128_02_1_n_n_1_1_10241128 x (column 49#32 lit0))
    (broadcastInDim S1024x413x128 ![] bcast_S_S1024x413x128 (constant S_ .f32 0x7FC00000#32))

/-- The matrices of the 413 pairs. -/
def matrices : FVec Ideal S1x413x128x128 .f32 :=
  select (broadcastInDim S1x413x128x128 ![1] bcast_S413_S1x413x128x128_1 (between 230#32 (column 231#32 lit2)))
    (Host.gather gather_S1x231x128x128_S413x1_S1x413x128x128_023_1_n_n_1_1_11128128 w (column 231#32 lit2))
    (broadcastInDim S1x413x128x128 ![] bcast_S_S1x413x128x128 (constant S_ .f32 0x7FC00000#32))

/-- Pair `p` of the gathered orders is the pair's input order. -/
theorem orders_apply (n : Fin 1024) (p : Fin 413) (k : Fin 128) : orders x (ix3 n p k) = x (ix3 n (entry p).2.1 k) := by
  unfold orders
  rw [select_apply, show broadcastInDim S1024x413x128 ![1] bcast_S413_S1024x413x128_1 (between 48#32 (column 49#32 lit0)) (ix3 n p k) = 1#1 from
    between_apply 48 (by omega) _ (fun p => (entry p).2.1.val) (fun p => by have := (entry p).2.1.isLt; omega) column0 _, select_one]
  unfold Host.gather
  refine congrArg x (funext fun a => Fin.ext ?_)
  have hsi : gather_S1024x49x128_S413x1_S1024x413x128_02_1_n_n_1_1_10241128.siIdx (ix3 n p k) ⟨0, Nat.one_pos⟩ = ix2 p (0 : Fin 1) := by
    funext b; refine Fin.ext ?_
    match b with
    | ⟨0, _⟩ => rfl
    | ⟨1, _⟩ => rfl
  match a with
  | ⟨0, _⟩ => exact Nat.zero_add _
  | ⟨1, _⟩ =>
    show min (column 49#32 lit0 (gather_S1024x49x128_S413x1_S1024x413x128_02_1_n_n_1_1_10241128.siIdx (ix3 n p k) ⟨0, Nat.one_pos⟩)).toInt.toNat 48 + 0 + 0
      = (entry p).2.1.val
    have h := (entry p).2.1.isLt
    rw [hsi, column0, toInt_word _ (by omega)]
    omega
  | ⟨2, _⟩ => exact Nat.zero_add _

/-- Pair `p` of the gathered matrices is the pair's matrix. -/
theorem matrices_apply (p : Fin 413) (k c : Fin 128) :
    matrices w (ix4 (0 : Fin 1) p k c) = w (ix4 (0 : Fin 1) (entry p).2.2.2 k c) := by
  unfold matrices
  rw [select_apply, show broadcastInDim S1x413x128x128 ![1] bcast_S413_S1x413x128x128_1 (between 230#32 (column 231#32 lit2)) (ix4 (0 : Fin 1) p k c) = 1#1 from
    between_apply 230 (by omega) _ (fun p => (entry p).2.2.2.val) (fun p => by have := (entry p).2.2.2.isLt; omega) column2 _, select_one]
  unfold Host.gather
  refine congrArg w (funext fun a => Fin.ext ?_)
  have hsi : gather_S1x231x128x128_S413x1_S1x413x128x128_023_1_n_n_1_1_11128128.siIdx (ix4 (0 : Fin 1) p k c) ⟨0, Nat.one_pos⟩ = ix2 p (0 : Fin 1) := by
    funext b; refine Fin.ext ?_
    match b with
    | ⟨0, _⟩ => rfl
    | ⟨1, _⟩ => rfl
  match a with
  | ⟨0, _⟩ => rfl
  | ⟨1, _⟩ =>
    show min (column 231#32 lit2 (gather_S1x231x128x128_S413x1_S1x413x128x128_023_1_n_n_1_1_11128128.siIdx (ix4 (0 : Fin 1) p k c) ⟨0, Nat.one_pos⟩)).toInt.toNat 230 + 0 + 0
      = (entry p).2.2.2.val
    have h := (entry p).2.2.2.isLt
    rw [hsi, column2, toInt_word _ h]
    omega
  | ⟨2, _⟩ => exact Nat.zero_add _
  | ⟨3, _⟩ => exact Nat.zero_add _

/-! ## The signed matrices and the products -/

/-- The sign of a pair. -/
def sign (b : Bool) : EReal := bif b then -1 else 1

/-- The word of a sign is the sign. -/
theorem sign_word (b : Bool) : Ideal.ofBits .f32 (bif b then 0xBF800000#32 else 0x3F800000#32) = sign b := by
  cases b
  · exact Ideal.ofBits_one_f32
  · show Ideal.ofBits .f32 0xBF800000#32 = -1
    rw [show (-1 : EReal) = ((-(1 : ℝ) : ℝ) : EReal) by rw [EReal.coe_neg, EReal.coe_one]]
    simp [Ideal.ofBits, Ideal.ieee, -EReal.coe_mul, -EReal.coe_neg]; norm_num

/-- The pairs' matrices, each times its sign. -/
def signedMatrices : FVec Ideal S413x128x128 .f32 :=
  shapeCast _ (mulf (matrices w)
      (broadcastInDim S1x413x128x128 ![0, 1, 2, 3] bcast_S1x413x1x1_S1x413x128x128_0_1_2_3
        (broadcastInDim S1x413x1x1 ![1] bcast_S413_S1x413x1x1_1 (fun i => FloatOps.ofBits .f32 (lit3 (S413.rowMajor i))))))
    shapeCasts_S1x413x128x128_S413x128x128

/-- Pair `p` of them. -/
theorem signedMatrices_apply (p : Fin 413) (k c : Fin 128) :
    signedMatrices w (ix3 p k c) = w (ix4 (0 : Fin 1) (entry p).2.2.2 k c) * sign (entry p).2.2.1 := by
  have hp : S413.rowMajor (ix1 p : S413.Idx) = p := Fin.ext (Shape.rowMajor_val_one (ix1 p : (⟨1, ![413]⟩ : Shape).Idx))
  unfold signedMatrices
  refine (shapeCast_apply _ _ (ix3 p k c) (ix4 (0 : Fin 1) p k c) ?_).trans ?_
  · rw [Shape.rowMajor_val_four, Shape.rowMajor_val_three]
    show ((0 * 413 + p.val) * 128 + k.val) * 128 + c.val = (p.val * 128 + k.val) * 128 + c.val; omega
  · refine congrArg₂ (· * ·) (matrices_apply w p k c) ?_
    refine Eq.trans ?_ (sign_word (entry p).2.2.1)
    rw [← lit3_eq]
    show Ideal.ofBits .f32 (lit3 _) = _
    refine congrArg (fun q => Ideal.ofBits .f32 (lit3 q)) (Eq.trans (congrArg S413.rowMajor (funext fun a => ?_)) hp)
    match a with
    | ⟨0, _⟩ => rfl

/-- Each pair's product of its order with its signed matrix, for every sample. -/
def products : FVec Ideal S1024x413x128 .f32 :=
  transpose S1024x413x128 [2, 0, 1]
    (Host.dotGeneral dot_S413x128x128_S1024x413x128_S413x128x1024_1_2_2_0_0_1 none (signedMatrices w) (orders x))
    transposes_S413x128x1024_S1024x413x128_2_0_1

/-- What a pair adds in the reference at sample `n`, channel `c`. -/
def refTerm (n : Fin 1024) (c : Fin 128) (q : Pair) : EReal :=
  ∑ k : Fin 128, w (ix4 (0 : Fin 1) q.2.2 k c) * sign q.2.1 * x (ix3 n q.1 k)

/-- The products at an index. -/
theorem products_apply (n : Fin 1024) (p : Fin 413) (c : Fin 128) : products x w (ix3 n p c) = refTerm x w n c (entry p).2 := by
  unfold products
  refine (transpose_apply [2, 0, 1] _ transposes_S413x128x1024_S1024x413x128_2_0_1 (ix3 n p c) (ix3 p c n)
    (fun a => by match a with | ⟨0, _⟩ => rfl | ⟨1, _⟩ => rfl | ⟨2, _⟩ => rfl)).trans ?_
  simp only [Host.dotGeneral]
  rw [Ideal.dotGeneral_apply, ← Equiv.sum_comp (contrEquiv1 dot_S413x128x128_S1024x413x128_S413x128x1024_1_2_2_0_0_1 128 rfl rfl).symm]
  refine Finset.sum_congr rfl fun k _ => ?_
  have hk := contrEquiv1_symm_val dot_S413x128x128_S1024x413x128_S413x128x1024_1_2_2_0_0_1 128 rfl rfl k
  refine congrArg₂ (· * ·) (Eq.trans (congrArg (signedMatrices w) (funext fun a => Fin.ext ?_)) (signedMatrices_apply w p k c))
    (Eq.trans (congrArg (orders x) (funext fun a => Fin.ext ?_)) (orders_apply x n p k))
  · match a with
    | ⟨0, _⟩ => rfl
    | ⟨1, _⟩ => exact hk
    | ⟨2, _⟩ => rfl
  · match a with
    | ⟨0, _⟩ => rfl
    | ⟨1, _⟩ => rfl
    | ⟨2, _⟩ => exact hk

/-! ## The scatter -/

/-- Where the product of pair `p` lands: at the pair's output order, the other coordinates kept. -/
theorem lands (n : Fin 1024) (p : Fin 413) (c : Fin 128) :
    scatter_S1024x49x128_S413x1_S1024x413x128_02_1_1_1.resultIdx? (ix3 n p c) (column 49#32 lit1) = some (ix3 n (entry p).1 c) := by
  have hsi : scatter_S1024x49x128_S413x1_S1024x413x128_02_1_1_1.siIdx (ix3 n p c) ⟨0, Nat.one_pos⟩ = ix2 p (0 : Fin 1) := by
    funext b; refine Fin.ext ?_
    match b with
    | ⟨0, _⟩ => rfl
    | ⟨1, _⟩ => rfl
  have h1 : scatter_S1024x49x128_S413x1_S1024x413x128_02_1_1_1.start (ix3 n p c) (column 49#32 lit1) 1 = ((entry p).1.val : Int) := by
    show (column 49#32 lit1 (scatter_S1024x49x128_S413x1_S1024x413x128_02_1_1_1.siIdx (ix3 n p c) ⟨0, Nat.one_pos⟩)).toInt = _
    rw [hsi, column1, toInt_word _ (by have := (entry p).1.isLt; omega)]
  have e : ∀ a : Fin 3, scatter_S1024x49x128_S413x1_S1024x413x128_02_1_1_1.start (ix3 n p c) (column 49#32 lit1) a
      + scatter_S1024x49x128_S413x1_S1024x413x128_02_1_1_1.window (ix3 n p c) a = ((ix3 n (entry p).1 c : S1024x49x128.Idx) a).val := by
    intro a
    match a with
    | ⟨0, _⟩ => exact Int.zero_add _
    | ⟨1, _⟩ => exact (congrArg (· + ((0 : Nat) : Int)) h1).trans (Int.add_zero _)
    | ⟨2, _⟩ => exact Int.zero_add _
  unfold ScatterDims.resultIdx?
  rw [dif_pos fun a => by
    rw [e a]
    exact ⟨Int.natCast_nonneg _, by exact_mod_cast ((ix3 n (entry p).1 c : S1024x49x128.Idx) a).isLt⟩]
  refine congrArg some (funext fun a => Fin.ext ?_)
  show Int.toNat _ = _
  rw [e a]
  rfl

/-- The reference's result. -/
def refResult : FVec Ideal S1024x49x128 .f32 :=
  Host.scatterAdd scatter_S1024x49x128_S413x1_S1024x413x128_02_1_1_1
    (broadcastInDim S1024x49x128 ![] bcast_S_S1024x49x128 (constant S_ .f32 0x00000000#32)) (column 49#32 lit1) (products x w)

/-- The reference's result at an index is the sum over the output order's row. -/
theorem refResult_apply (n : Fin 1024) (o : Fin 49) (c : Fin 128) :
    refResult x w (ix3 n o c) = ((row o).map (refTerm x w n c)).sum := by
  rw [← sum_entry (refTerm x w n c) o, ← Finset.sum_filter]
  show Ideal.ofBits .f32 0x00000000#32 + (∑ j ∈ Finset.univ.filter (fun j =>
    scatter_S1024x49x128_S413x1_S1024x413x128_02_1_1_1.resultIdx? j (column 49#32 lit1) = some (ix3 n o c)), products x w j) = _
  rw [Ideal.ofBits_zero_f32, zero_add]
  symm
  refine Finset.sum_bij (fun p _ => (ix3 n p c : S1024x413x128.Idx)) ?_ ?_ ?_ ?_
  · intro p hp
    rw [Finset.mem_filter] at hp ⊢
    exact ⟨Finset.mem_univ _, by rw [lands, hp.2]⟩
  · intro p _ p' _ h
    exact congrFun h 1
  · intro j hj
    obtain ⟨n', p, c', rfl⟩ : ∃ (n' : Fin 1024) (p : Fin 413) (c' : Fin 128), j = ix3 n' p c' := ⟨j 0, j 1, j 2, eq_ix3 j⟩
    have h := Option.some.inj ((lands n' p c').symm.trans (Finset.mem_filter.1 hj).2)
    obtain rfl : n' = n := congrFun h 0
    obtain rfl : c' = c := congrFun h 2
    exact ⟨p, Finset.mem_filter.2 ⟨Finset.mem_univ _, congrFun h 1⟩, rfl⟩
  · intro p _
    exact (products_apply x w n p c).symm

/-- The reference's run: its result array holds `refResult` of the two arguments, which are as launched. -/
theorem refRun (m : (ℓ : Loc nD τ sig) → Buf (Elt Ideal) ℓ) (ρ : Dev nD → PrngReg) :
    θ_run defs (onTc (τ := τ) (main (F := Ideal))) ⟨m, fun _ => 0, ρ⟩ fun r => ∀ d : Dev nD,
      r.2.mem ((d : Thread nD τ).loc main_v15)
        = refResult (m ((d : Thread nD τ).loc main_arg0)) (m ((d : Thread nD τ).loc main_arg1))
      ∧ r.2.mem ((d : Thread nD τ).loc main_arg0) = m ((d : Thread nD τ).loc main_arg0)
      ∧ r.2.mem ((d : Thread nD τ).loc main_arg1) = m ((d : Thread nD τ).loc main_arg1) :=
  Value.run m ρ

end Cert.So2

end
-- ==== Proof.Equation.lean ====
/- For finite arguments the kernel's result is the reference's. -/
module

public import proofs.«01_k».proof.Pre_finite
public import proofs.«01_k».proof.Proof.Value
public import proofs.«01_k».proof.Proof.RefValue

@[expose] public section

noncomputable section

namespace Cert.So2

open Idealize.ShloMosaic Idealize.ShloMosaic.ValueIdx

/-- An extended real whose absolute value compares below infinity is a real number. -/
theorem real_of_below (a : EReal) (h : Ideal.cmp .olt (max a (-a)) (Ideal.ofBits .f32 0x7F800000#32) = 1#1) :
    ∃ r : ℝ, a = (r : EReal) := by
  rw [show Ideal.ofBits .f32 0x7F800000#32 = ⊤ by simp [Ideal.ofBits, Ideal.ieee]] at h
  have hlt : max a (-a) < ⊤ := by
    by_contra hn
    simp [Ideal.cmp, hn] at h
  induction a with
  | bot => simp at hlt
  | top => simp at hlt
  | coe r => exact ⟨r, rfl⟩

/-- A sum of reals, summed in the extended reals. -/
theorem sum_coe (s : Finset (Fin 128)) (f : Fin 128 → ℝ) : ∑ k ∈ s, (f k : EReal) = ((∑ k ∈ s, f k : ℝ) : EReal) := by
  induction s using Finset.cons_induction with
  | empty => simp
  | cons a s h ih => rw [Finset.sum_cons, Finset.sum_cons, ih, EReal.coe_add]

/-- Of real numbers, the signed sum of products is the sum of products with the sign inside. -/
theorem signed_sum (b : Bool) (x w : Fin 128 → EReal) (hx : ∀ k, ∃ r : ℝ, x k = (r : EReal)) (hw : ∀ k, ∃ r : ℝ, w k = (r : EReal)) :
    signed b (∑ k, x k * w k) = ∑ k, w k * sign b * x k := by
  cases b with
  | false =>
    show ∑ k, x k * w k = ∑ k, w k * 1 * x k
    exact Finset.sum_congr rfl fun k _ => by rw [mul_one, mul_comm]
  | true =>
    choose f hf using hx
    choose g hg using hw
    show -(∑ k, x k * w k) = ∑ k, w k * -1 * x k
    rw [Finset.sum_congr rfl fun k _ => show x k * w k = ((f k * g k : ℝ) : EReal) by rw [hf, hg, EReal.coe_mul],
      Finset.sum_congr rfl fun k _ => show w k * -1 * x k = ((-(f k * g k) : ℝ) : EReal) by
        rw [hf, hg, show (-1 : EReal) = ((-1 : ℝ) : EReal) by rw [EReal.coe_neg, EReal.coe_one], ← EReal.coe_mul, ← EReal.coe_mul]
        congr 1; ring,
      sum_coe, sum_coe, ← EReal.coe_neg, Finset.sum_neg_distrib]

/-- Where every entry of both arguments is a real number, the two results are equal. -/
theorem result_eq (x : KernelIdeal.S1024x49x128.Idx → EReal) (w : KernelIdeal.S1x231x128x128.Idx → EReal)
    (hx : ∀ i, ∃ r : ℝ, x i = (r : EReal)) (hw : ∀ i, ∃ r : ℝ, w i = (r : EReal)) : refResult x w = result x w := by
  funext y
  obtain ⟨n, o, c, rfl⟩ : ∃ (n : Fin 1024) (o : Fin 49) (c : Fin 128), y = ix3 n o c := ⟨y 0, y 1, y 2, eq_ix3 y⟩
  refine (refResult_apply x w n o c).trans (congrArg List.sum (List.map_congr_left fun q _ => ?_))
  exact (signed_sum q.2.1 (fun k => x (ix3 n q.1 k)) (fun k => w (ix4 (0 : Fin 1) q.2.2 k c)) (fun _ => hx _) (fun _ => hw _)).symm

/-- The shape conditions of the precondition hold. -/
theorem finiteFacts : Pre_finite.Facts := ⟨by decide, by decide⟩

/-- Arguments that satisfy the precondition have real entries only. -/
theorem reals_of_finite [Pre_finite.Facts] (x : FVec Ideal Pre_finite.S1024x49x128 .f32) (w : FVec Ideal Pre_finite.S1x231x128x128 .f32)
    (h : (Pre_finite.fn x w).1 = (fun _ => 1#1) ∧ (Pre_finite.fn x w).2 = fun _ => 1#1) :
    (∀ i, ∃ r : ℝ, x i = (r : EReal)) ∧ ∀ i, ∃ r : ℝ, w i = (r : EReal) :=
  ⟨fun i => real_of_below (x i) (congrFun h.1 i), fun i => real_of_below (w i) (congrFun h.2 i)⟩

end Cert.So2

end
-- ==== Proof.lean ====
/- The claims: the three runs end as they should, the kernel over the extended reals is the kernel's own text, and from
   finite arguments its result is the reference's. -/
module

public import proofs.«01_k».proof.Defs
public import proofs.«01_k».proof.Proof.Gen.Kernel.Frame
public import proofs.«01_k».proof.Proof.Equation
public import Idealize.ShloMosaic.Lib.Quiescent

@[expose] public section

noncomputable section

namespace Cert.Proof

open Idealize.ShloMosaic Idealize.SL.Sem

/-- The kernel runs to the end, leaves its arguments as they were and every counter at zero. -/
theorem kernel_frame : Cert.quiescent_Kernel (hKernel := Kernel.Gen.facts) := fun m g _ => Kernel.Gen.frame m g

/-- So does the kernel over the extended reals. -/
theorem kernelIdeal_frame : Cert.quiescent_KernelIdeal (hKernelIdeal := KernelIdeal.Gen.facts) := fun m g _ => KernelIdeal.Gen.frame m g

/-- So does the reference over the extended reals, which has no counter. -/
theorem reference_frame : Cert.quiescent_ReferenceIdeal (hReferenceIdeal := ReferenceIdeal.Gen.facts) := fun m g _ =>
  (θ_run _ _ _).mono (fun r h => ⟨fun c => (h c).2, sem_eq_zero_of_no_sems rfl r.2⟩) (So2.refRun m g)

/-- From finite arguments the kernel and the reference, over the extended reals, end with the same result. -/
theorem same_result : Cert.algebraic_KernelIdeal_ReferenceIdeal_pre_finite (hKernelIdeal := KernelIdeal.Gen.facts)
    (hReferenceIdeal := ReferenceIdeal.Gen.facts) (hPre_finite := So2.finiteFacts) := by
  intro m g m' g' hpre hagree
  letI := So2.finiteFacts
  refine ⟨fun c => So2.result _ _, So2.run m g, (θ_run _ _ _).mono (fun r h c => ⟨(h c).1.trans ?_, (h c).2⟩) (So2.refRun m' g')⟩
  obtain ⟨hx, hw⟩ := So2.reals_of_finite _ _ (hpre c)
  rw [(hagree c).1, (hagree c).2]
  exact So2.result_eq _ _ hx hw

/-- Everything the certificate claims. -/
theorem claim : Cert.Claim :=
  ⟨Kernel.Gen.facts, KernelIdeal.Gen.facts, ReferenceIdeal.Gen.facts, So2.finiteFacts,
    kernel_frame, kernelIdeal_frame, fun m g _ => kernelIdeal_frame m g trivial,
    reference_frame, fun m g _ => reference_frame m g trivial, trivial, same_result⟩

end Cert.Proof

end
